-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1536x2560 : Shape := ⟨3, ![12, 1536, 2560]⟩
abbrev S12x1536x320 : Shape := ⟨3, ![12, 1536, 320]⟩
abbrev S2 : Shape := ⟨1, ![2]⟩
abbrev S2560x3456 : Shape := ⟨2, ![2560, 3456]⟩
abbrev S320x3456 : Shape := ⟨2, ![320, 3456]⟩
abbrev S1 : Shape := ⟨1, ![1]⟩
abbrev S2x2560x3456 : Shape := ⟨3, ![2, 2560, 3456]⟩
abbrev S256x3456 : Shape := ⟨2, ![256, 3456]⟩
abbrev S32x3456 : Shape := ⟨2, ![32, 3456]⟩
abbrev S2x256x3456 : Shape := ⟨3, ![2, 256, 3456]⟩
abbrev S64x3456 : Shape := ⟨2, ![64, 3456]⟩
abbrev S32x1x3456 : Shape := ⟨3, ![32, 1, 3456]⟩
abbrev S32x8x3456 : Shape := ⟨3, ![32, 8, 3456]⟩
abbrev S1x256x3456 : Shape := ⟨3, ![1, 256, 3456]⟩
abbrev S18432x2560 : Shape := ⟨2, ![18432, 2560]⟩
abbrev S18432x320 : Shape := ⟨2, ![18432, 320]⟩
abbrev S5120x3456 : Shape := ⟨2, ![5120, 3456]⟩
abbrev S18432x3456 : Shape := ⟨2, ![18432, 3456]⟩
abbrev S256x2560 : Shape := ⟨2, ![256, 2560]⟩
abbrev S256x320 : Shape := ⟨2, ![256, 320]⟩
abbrev S256x5120 : Shape := ⟨2, ![256, 5120]⟩
abbrev S256x128 : Shape := ⟨2, ![256, 128]⟩
abbrev S256x128x1 : Shape := ⟨3, ![256, 128, 1]⟩
abbrev S64x128 : Shape := ⟨2, ![64, 128]⟩
abbrev S256x64 : Shape := ⟨2, ![256, 64]⟩
abbrev S12x1536x3456 : Shape := ⟨3, ![12, 1536, 3456]⟩

abbrev nBuf : Space → Nat
  | .hbm => 12
  | .vmem => 14
  | .smem => 2
  | _ => 0

abbrev bufTy : (tb : Table) → Fin (tcTables nBuf tb) → BufTy
  | .hbm, ⟨0, _⟩ => ⟨S12x1536x2560, .i8⟩
  | .hbm, ⟨1, _⟩ => ⟨S12x1536x320, .fp8e4m3⟩
  | .hbm, ⟨2, _⟩ => ⟨S2, .f32⟩
  | .hbm, ⟨3, _⟩ => ⟨S2560x3456, .i8⟩
  | .hbm, ⟨4, _⟩ => ⟨S320x3456, .fp8e4m3⟩
  | .hbm, ⟨5, _⟩ => ⟨S1, .f32⟩
  | .hbm, ⟨6, _⟩ => ⟨S2x2560x3456, .bf16⟩
  | .hbm, ⟨7, _⟩ => ⟨S18432x2560, .i8⟩
  | .hbm, ⟨8, _⟩ => ⟨S18432x320, .fp8e4m3⟩
  | .hbm, ⟨9, _⟩ => ⟨S5120x3456, .bf16⟩
  | .hbm, ⟨10, _⟩ => ⟨S18432x3456, .bf16⟩
  | .hbm, ⟨11, _⟩ => ⟨S12x1536x3456, .bf16⟩
  | .local _ .vmem, ⟨0, _⟩ => ⟨S256x3456, .i8⟩
  | .local _ .vmem, ⟨1, _⟩ => ⟨S256x3456, .i8⟩
  | .local _ .vmem, ⟨2, _⟩ => ⟨S32x3456, .fp8e4m3⟩
  | .local _ .vmem, ⟨3, _⟩ => ⟨S32x3456, .fp8e4m3⟩
  | .local _ .vmem, ⟨4, _⟩ => ⟨S2x256x3456, .bf16⟩
  | .local _ .vmem, ⟨5, _⟩ => ⟨S2x256x3456, .bf16⟩
  | .local _ .vmem, ⟨6, _⟩ => ⟨S256x2560, .i8⟩
  | .local _ .vmem, ⟨7, _⟩ => ⟨S256x2560, .i8⟩
  | .local _ .vmem, ⟨8, _⟩ => ⟨S256x320, .fp8e4m3⟩
  | .local _ .vmem, ⟨9, _⟩ => ⟨S256x320, .fp8e4m3⟩
  | .local _ .vmem, ⟨10, _⟩ => ⟨S5120x3456, .bf16⟩
  | .local _ .vmem, ⟨11, _⟩ => ⟨S256x3456, .bf16⟩
  | .local _ .vmem, ⟨12, _⟩ => ⟨S256x3456, .bf16⟩
  | .local _ .vmem, ⟨13, _⟩ => ⟨S256x5120, .bf16⟩
  | .local _ .smem, ⟨0, _⟩ => ⟨S2, .f32⟩
  | .local _ .smem, ⟨1, _⟩ => ⟨S1, .f32⟩
  | _, _ => ⟨S12x1536x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_scratch0 : Ref sig .tc := ⟨.vmem, 13, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x3456 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3456 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x3456 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![72], ![false]⟩

def k1_off1 (i : grid1.Coords) : Fin 1 → Nat :=
  let arg0 : BitVec 32 := BitVec.ofNat 32 (i 0).val
  let c0_i32_278 : BitVec 32 := 0#32
  let v897 : BitVec 1 := Scalar.cmpi .sgt arg0 c0_i32_278
  let v898 : BitVec 32 := Scalar.extui v897
  let c0_i32_279 : BitVec 32 := 0#32
  let v899 : BitVec 1 := Scalar.cmpi .slt arg0 c0_i32_279
  let v900 : BitVec 32 := Scalar.extui v899
  let v901 : BitVec 32 := Scalar.subi v898 v900
  let c3_i32 : BitVec 32 := 3#32
  let c0_i32_280 : BitVec 32 := 0#32
  let v902 : BitVec 1 := Scalar.cmpi .sgt c3_i32 c0_i32_280
  let v903 : BitVec 32 := Scalar.extui v902
  let c0_i32_281 : BitVec 32 := 0#32
  let v904 : BitVec 1 := Scalar.cmpi .slt c3_i32 c0_i32_281
  let v905 : BitVec 32 := Scalar.extui v904
  let v906 : BitVec 32 := Scalar.subi v903 v905
  let v907 : BitVec 1 := Scalar.cmpi .ne v901 v906
  let v908 : BitVec 32 := Scalar.remsi arg0 c3_i32
  let c0_i32_282 : BitVec 32 := 0#32
  let v909 : BitVec 1 := Scalar.cmpi .ne v908 c0_i32_282
  let v910 : BitVec 1 := Scalar.andi v907 v909
  let v896 : BitVec 32 := Scalar.divsi arg0 c3_i32
  let c1_i32_283 : BitVec 32 := 1#32
  let v911 : BitVec 32 := Scalar.subi v896 c1_i32_283
  let v912 : BitVec 32 := Scalar.select v910 v911 v896
  let c2_i32_284 : BitVec 32 := 2#32
  let c0_i32_285 : BitVec 32 := 0#32
  let v913 : BitVec 1 := Scalar.cmpi .eq c2_i32_284 c0_i32_285
  let c1_i32_286 : BitVec 32 := 1#32
  let v914 : BitVec 32 := Scalar.select v913 c1_i32_286 c2_i32_284
  let v915 : BitVec 32 := Scalar.remsi v912 v914
  let c0_i32_288 : BitVec 32 := 0#32
  let v917 : BitVec 1 := Scalar.cmpi .slt v915 c0_i32_288
  let c0_i32_289 : BitVec 32 := 0#32
  let v918 : BitVec 1 := Scalar.cmpi .slt v914 c0_i32_289
  let v919 : BitVec 1 := Scalar.xori v917 v918
  let c0_i32_287 : BitVec 32 := 0#32
  let v916 : BitVec 1 := Scalar.cmpi .ne v915 c0_i32_287
  let v920 : BitVec 1 := Scalar.andi v919 v916
  let v921 : BitVec 32 := Scalar.addi v915 v914
  let v922 : BitVec 32 := Scalar.select v920 v921 v915
  let v923 : Index := Scalar.indexCast v922
  ![v923.toNat]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2560 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x320 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S5120x3456 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x3456 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S12x1536x2560 : Shape := ⟨3, ![12, 1536, 2560]⟩
abbrev S12x1536x320 : Shape := ⟨3, ![12, 1536, 320]⟩
abbrev S2 : Shape := ⟨1, ![2]⟩
abbrev S2560x3456 : Shape := ⟨2, ![2560, 3456]⟩
abbrev S320x3456 : Shape := ⟨2, ![320, 3456]⟩
abbrev S1 : Shape := ⟨1, ![1]⟩
abbrev S12x1536x3456 : Shape := ⟨3, ![12, 1536, 3456]⟩
abbrev S12x1536x320x1 : Shape := ⟨4, ![12, 1536, 320, 1]⟩
abbrev S12x1536x320x8 : Shape := ⟨4, ![12, 1536, 320, 8]⟩
abbrev S320x1x3456 : Shape := ⟨3, ![320, 1, 3456]⟩
abbrev S320x8x3456 : Shape := ⟨3, ![320, 8, 3456]⟩
abbrev S2x1 : Shape := ⟨2, ![2, 1]⟩
abbrev S2x768 : Shape := ⟨2, ![2, 768]⟩
abbrev S1536 : Shape := ⟨1, ![1536]⟩
abbrev S1x1536x1 : Shape := ⟨3, ![1, 1536, 1]⟩

abbrev nBuf : Space → Nat
  | .hbm => 7
  | .vmem => 7
  | .smem => 0
  | _ => 0

abbrev bufTy : (tb : Table) → Fin (tcTables nBuf tb) → BufTy
  | .hbm, ⟨0, _⟩ => ⟨S12x1536x2560, .i8⟩
  | .hbm, ⟨1, _⟩ => ⟨S12x1536x320, .fp8e4m3⟩
  | .hbm, ⟨2, _⟩ => ⟨S2, .f32⟩
  | .hbm, ⟨3, _⟩ => ⟨S2560x3456, .i8⟩
  | .hbm, ⟨4, _⟩ => ⟨S320x3456, .fp8e4m3⟩
  | .hbm, ⟨5, _⟩ => ⟨S1, .f32⟩
  | .hbm, ⟨6, _⟩ => ⟨S12x1536x3456, .bf16⟩
  | .local _ .vmem, ⟨0, _⟩ => ⟨S12x1536x2560, .i8⟩
  | .local _ .vmem, ⟨1, _⟩ => ⟨S12x1536x320, .fp8e4m3⟩
  | .local _ .vmem, ⟨2, _⟩ => ⟨S2, .f32⟩
  | .local _ .vmem, ⟨3, _⟩ => ⟨S2560x3456, .i8⟩
  | .local _ .vmem, ⟨4, _⟩ => ⟨S320x3456, .fp8e4m3⟩
  | .local _ .vmem, ⟨5, _⟩ => ⟨S1, .f32⟩
  | .local _ .vmem, ⟨6, _⟩ => ⟨S12x1536x3456, .bf16⟩
  | _, _ => ⟨S12x1536x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x1536x2560 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x1536x320 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x3456 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x3456 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x1536x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Run.lean ====
/- The kernel program's run: `Gen.frame` with the result array added, read off the last thread state as the arguments are. -/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- From any memory with zero counters the program runs to an end: the result array holds what the fold of the segments
    leaves in it (`W4`), every argument array is as launched, and every semaphore counter is zero. -/
theorem run : θ_run defs (onTc (τ := τ) (main (F := F))) ⟨m, fun _ => 0, ρ⟩ (fun r => (∀ c : Dev nD,
      r.2.mem ((c.tc : Thread nD τ).loc main_v5) = W4 m ρ c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩), funext fun g => hz g (.inr (no_unscoped g.2))⟩)

end Cert.KernelIdeal.Run

end
-- ==== Proof.Word.lean ====
/- The packed words of the kernel: four rows of bytes are read as rows of 32-bit words, shifted and masked there, and read
   back as bytes. Every byte of the result depends on the byte at the same place alone. -/
module

public import Idealize.ShloMosaic.Lib.BitcastFour
public import Idealize.ShloMosaic.Lib.Pointwise

@[expose] public section

noncomputable section

namespace Cert.Proof

open Idealize.ShloMosaic

/-- The four-bit code in the low half of a byte, moved to where an 8-bit float keeps its sign and its low bits. -/
def lowByte (b : BitVec 8) : BitVec 8 := ((b <<< 2) &&& 0x1C#8) ||| ((b <<< 4) &&& 0x80#8)

/-- The four-bit code in the high half of a byte, moved there. -/
def highByte (b : BitVec 8) : BitVec 8 := ((b >>> 2) &&& 0x1C#8) ||| (b &&& 0x80#8)

/-- The low codes of the four bytes of a word, moved all at once. -/
def lowWord (w : BitVec 32) : BitVec 32 := ((w <<< 2) &&& 471604252#32) ||| ((w <<< 4) &&& 2155905152#32)

/-- The high codes of the four bytes of a word, moved all at once. -/
def highWord (w : BitVec 32) : BitVec 32 := ((w >>> 2) &&& 471604252#32) ||| (w &&& 2155905152#32)

/-- Byte `c` of the moved word is the moved byte `c`: no bit kept by the masks crosses a byte's edge (low codes). -/
theorem lowWord_byte (w : BitVec 32) (b : BitVec 8) (c : Nat) (hc : c < 4)
    (hb : ∀ i q : Nat, i = 8 * c + q → q < 8 → w.getLsbD i = b.getLsbD q) (q : Nat) (hq : q < 8) :
    (lowWord w).getLsbD (8 * c + q) = (lowByte b).getLsbD q := by
  have h0 := hb _ 0 rfl (by omega)
  have h1 := hb _ 1 rfl (by omega)
  have h2 := hb _ 2 rfl (by omega)
  have h3 := hb _ 3 rfl (by omega)
  unfold lowWord lowByte
  interval_cases c <;> interval_cases q <;> simp_all

/-- The same for the high codes. -/
theorem highWord_byte (w : BitVec 32) (b : BitVec 8) (c : Nat) (hc : c < 4)
    (hb : ∀ i q : Nat, i = 8 * c + q → q < 8 → w.getLsbD i = b.getLsbD q) (q : Nat) (hq : q < 8) :
    (highWord w).getLsbD (8 * c + q) = (highByte b).getLsbD q := by
  have h4 := hb _ 4 rfl (by omega)
  have h5 := hb _ 5 rfl (by omega)
  have h6 := hb _ 6 rfl (by omega)
  have h7 := hb _ 7 rfl (by omega)
  unfold highWord highByte
  interval_cases c <;> interval_cases q <;> simp_all

/-- Words read back as bytes: bit `q` of the byte at row `p` is bit `8 (p mod 4) + q` of the word at row `p / 4`. -/
theorem bytes_getLsbD {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4)
    (q : Nat) (hq : q < 8) :
    (bitcast ⟨2, ![R, n]⟩ 8 x h (ix2 p l)).getLsbD q = (x (ix2 a l)).getLsbD (8 * (p.val % 4) + q) := by
  rw [bitcast_getLsbD x h _ q hq (by decide)]
  have hr : (⟨2, ![R, n]⟩ : Shape).row (ix2 p l) = p.val := rfl
  have e : ((⟨2, ![R, n]⟩ : Shape).row (ix2 p l) * 8 + q) % 32 = 8 * (p.val % 4) + q := by rw [hr]; omega
  have e' : ((⟨2, ![R, n]⟩ : Shape).row (ix2 p l) * 8 + q) / 32 = a.val := by rw [hr]; omega
  rw [e]
  congr 2
  funext c
  match c with
  | ⟨0, _⟩ => exact Fin.ext ((h.srcIdx_row _ _ _ ⟨0, Nat.zero_lt_two⟩ rfl).trans e')
  | ⟨1, _⟩ => exact Fin.ext (h.srcIdx_other _ _ _ ⟨1, Nat.one_lt_two⟩ (by show ¬ 1 + 2 = 2; omega))

/-- Bytes packed into words, a bytewise operation on the words, and the words read back: the operation on each byte. -/
theorem bytewise {R r n : Nat} (f : BitVec 32 → BitVec 32) (g : BitVec 8 → BitVec 8)
    (hfg : ∀ (w : BitVec 32) (b : BitVec 8) (c : Nat), c < 4 →
      (∀ i q : Nat, i = 8 * c + q → q < 8 → w.getLsbD i = b.getLsbD q) → ∀ q, q < 8 → (f w).getLsbD (8 * c + q) = (g b).getLsbD q)
    (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (hR : R = 4 * r) (p : Fin R) (l : Fin n) :
    bitcast ⟨2, ![R, n]⟩ 8 (fun j => f (bitcast ⟨2, ![r, n]⟩ 32 x h j)) h' (ix2 p l) = g (x (ix2 p l)) := by
  apply BitVec.eq_of_getLsbD_eq
  intro q hq
  have hp := p.isLt
  rw [bytes_getLsbD _ h' p l ⟨p.val / 4, by omega⟩ rfl q hq]
  refine hfg _ _ _ (by omega) (fun i q' hi hq' => ?_) q hq
  refine (bitcast_8_32_getLsbD_ix2 x h ⟨p.val / 4, by omega⟩ l i (by omega) p (by dsimp only; omega)).trans ?_
  rw [show i % 8 = q' by omega]
  rfl

end Cert.Proof

end
-- ==== Proof.Decode.lean ====
/- The four-bit codes as numbers. A code is `sign, exponent (2 bits), fraction (1 bit)`; the reference picks its value from
   a table of constants, the kernel reads the code's bits as an 8-bit float, which gives the value divided by 64. -/
module

public import proofs.«01_k».proof.Proof.Word

@[expose] public section

noncomputable section

namespace Cert.Proof

open Idealize.ShloMosaic

/-- The number a code with bits `b0` (lowest), `b1`, `b2` and sign `b3` stands for: `0, 0.5, 1, 1.5, 2, 3, 4, 6` and their negatives. -/
def code (b0 b1 b2 b3 : Bool) : ℝ :=
  (if b3 then -1 else 1) * (if b2 then (if b1 then (if b0 then 6 else 4) else (if b0 then 3 else 2))
    else (if b1 then (if b0 then 3/2 else 1) else (if b0 then 1/2 else 0)))

/-- The 8-bit pattern with a code's sign on top and its three low bits at bits 2 to 4. -/
def pattern (b0 b1 b2 b3 : Bool) : BitVec 8 :=
  (if b3 then 0x80#8 else 0#8) ||| (if b2 then 0x10#8 else 0#8) ||| (if b1 then 0x08#8 else 0#8) ||| (if b0 then 0x04#8 else 0#8)

/-- The moved low code is the pattern of bits 0 to 3. -/
theorem lowByte_eq : ∀ b : BitVec 8, lowByte b = pattern (b.getLsbD 0) (b.getLsbD 1) (b.getLsbD 2) (b.getLsbD 3) := by
  decide +kernel

/-- The moved high code is the pattern of bits 4 to 7. -/
theorem highByte_eq : ∀ b : BitVec 8, highByte b = pattern (b.getLsbD 4) (b.getLsbD 5) (b.getLsbD 6) (b.getLsbD 7) := by
  decide +kernel

/-- The 8-bit float with a code's pattern is the code's value over 64. -/
theorem e4m3fn_pattern (b0 b1 b2 b3 : Bool) : Ideal.e4m3fn (pattern b0 b1 b2 b3) = ((code b0 b1 b2 b3 / 64 : ℝ) : EReal) := by
  cases b0 <;> cases b1 <;> cases b2 <;> cases b3 <;>
    (simp [Ideal.e4m3fn, pattern, code, -EReal.coe_mul, -EReal.coe_neg] <;> norm_num)

end Cert.Proof

end
-- ==== Proof.Tile.lean ====
/- One tile of the kernel's unpacked left operand: 128 columns of codes, decoded and scaled. Every one of the 20 tiles
   is these functions at its own columns (`lowTile`, `highTile`, `scaleTile`). -/
module

public import proofs.«01_k».proof.Proof.Decode
public import proofs.«01_k».proof.Proof.Gen.KernelIdeal.Skeleton

@[expose] public section

set_option maxRecDepth 16384

noncomputable section

namespace Cert.Proof

open Idealize.ShloMosaic Cert.KernelIdeal Cert.KernelIdeal.Gen

/-- What the low code of a byte is worth, over 64. -/
def lowV (b : BitVec 8) : EReal := ((code (b.getLsbD 0) (b.getLsbD 1) (b.getLsbD 2) (b.getLsbD 3) / 64 : ℝ) : EReal)

/-- What the high code of a byte is worth, over 64. -/
def highV (b : BitVec 8) : EReal := ((code (b.getLsbD 4) (b.getLsbD 5) (b.getLsbD 6) (b.getLsbD 7) / 64 : ℝ) : EReal)

/-- The scales of a tile: `src` gathered along the lanes, lane `l` from lane `q + l / 8`. -/
def scaleTile (src : FVec Ideal S256x128 .f32) (q : BitVec 32) : FVec Ideal S256x128 .bf16 :=
  have v30 : IVec S256x128 32 := addi k1_pay2 (broadcast S256x128 q)
  have v35 : IVec S256x128 32 := select (cmpi .slt v30 (broadcast S256x128 0#32)) (addi v30 (broadcast S256x128 128#32)) v30
  truncf .bf16 (dynamicGather 1 src (shapeCast S256x128 (shapeCast S256x128x1 v35 shapeCasts_S256x128_S256x128x1)
    shapeCasts_S256x128x1_S256x128)) bitsLt_bf16_f32

/-- The low half of a tile. -/
def lowTile (s : FVec Ideal S256x128 .bf16) (x : Vec Ideal S256x128 .i8) : FVec Ideal S256x128 .bf16 :=
  k1_pay6 s (k1_pay4 (F := Ideal) x) k1_pay5

/-- The high half of a tile. -/
def highTile (s : FVec Ideal S256x128 .bf16) (x : Vec Ideal S256x128 .i8) : FVec Ideal S256x128 .bf16 :=
  k1_pay7 s (k1_pay4 (F := Ideal) x)

/-- Words of eight-bit patterns read as floats, when every byte of a word is a code moved into place. -/
theorem floats_low {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (p : Fin R) (l : Fin n) :
    bitcastToFloat (F := Ideal) .fp8e4m3 (bitcast ⟨2, ![R, n]⟩ 8 (fun j => lowWord (bitcast ⟨2, ![r, n]⟩ 32 x h j)) h') (ix2 p l)
      = lowV (x (ix2 p l)) := by
  show Ideal.e4m3fn (bitcast ⟨2, ![R, n]⟩ 8 (fun j => lowWord (bitcast ⟨2, ![r, n]⟩ 32 x h j)) h' (ix2 p l)) = _
  rw [bytewise lowWord lowByte lowWord_byte x h h' hR p l, lowByte_eq, e4m3fn_pattern, lowV]

/-- The same for the high codes. -/
theorem floats_high {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (p : Fin R) (l : Fin n) :
    bitcastToFloat (F := Ideal) .fp8e4m3 (bitcast ⟨2, ![R, n]⟩ 8 (fun j => highWord (bitcast ⟨2, ![r, n]⟩ 32 x h j)) h') (ix2 p l)
      = highV (x (ix2 p l)) := by
  show Ideal.e4m3fn (bitcast ⟨2, ![R, n]⟩ 8 (fun j => highWord (bitcast ⟨2, ![r, n]⟩ 32 x h j)) h' (ix2 p l)) = _
  rw [bytewise highWord highByte highWord_byte x h h' hR p l, highByte_eq, e4m3fn_pattern, highV]

/-- A tile's low half at an index: the code's value over 64, times the scale. -/
theorem lowTile_apply (s : FVec Ideal S256x128 .bf16) (x : Vec Ideal S256x128 .i8) (r : Fin 256) (l : Fin 128) :
    lowTile s x (ix2 r l) = lowV (x (ix2 r l)) * s (ix2 r l) := by
  unfold lowTile k1_pay6 k1_pay5 k1_pay4
  dsimp only
  rw [shapeCast_self, shapeCast_self]
  exact congrArg (· * s (ix2 r l)) (floats_low x bitcasts_S256x128_w8_S64x128_w32 bitcasts_S64x128_w32_S256x128_w8 rfl r l)

/-- A tile's high half at an index. -/
theorem highTile_apply (s : FVec Ideal S256x128 .bf16) (x : Vec Ideal S256x128 .i8) (r : Fin 256) (l : Fin 128) :
    highTile s x (ix2 r l) = highV (x (ix2 r l)) * s (ix2 r l) := by
  unfold highTile k1_pay7 k1_pay4
  dsimp only
  rw [shapeCast_self, shapeCast_self]
  exact congrArg (· * s (ix2 r l)) (floats_high x bitcasts_S256x128_w8_S64x128_w32 bitcasts_S64x128_w32_S256x128_w8 rfl r l)

/-- The lanes of `scaleTile`'s gather. -/
def laneIdx (q : BitVec 32) : IVec S256x128 32 :=
  select (cmpi .slt (addi k1_pay2 (broadcast S256x128 q)) (broadcast S256x128 0#32))
    (addi (addi k1_pay2 (broadcast S256x128 q)) (broadcast S256x128 128#32)) (addi k1_pay2 (broadcast S256x128 q))

/-- The lane a tile's scale is gathered from: `16 t + l / 8` in the `t`-th tile of eight. -/
theorem laneIdx_toNat : ∀ (t : Fin 8) (l : Fin 128),
    (laneIdx (BitVec.ofNat 32 (16 * t.val)) (ix2 0 l)).toNat = 16 * t.val + l.val / 8 := by
  decide +kernel

/-- The lane gathered from is the same in every row. -/
theorem laneIdx_row (q : BitVec 32) (r : Fin 256) (l : Fin 128) : laneIdx q (ix2 r l) = laneIdx q (ix2 0 l) := rfl

/-- A tile's scale at an index. -/
theorem scaleTile_apply (src : FVec Ideal S256x128 .f32) (t : Fin 8) (r : Fin 256) (l : Fin 128) :
    scaleTile src (BitVec.ofNat 32 (16 * t.val)) (ix2 r l) = src (ix2 r ⟨16 * t.val + l.val / 8, by omega⟩) := by
  have e : scaleTile src (BitVec.ofNat 32 (16 * t.val)) (ix2 r l)
      = dynamicGather 1 src (shapeCast S256x128 (shapeCast S256x128x1 (laneIdx (BitVec.ofNat 32 (16 * t.val)))
          shapeCasts_S256x128_S256x128x1) shapeCasts_S256x128x1_S256x128) (ix2 r l) := rfl
  rw [e, shapeCast_shapeCast]
  unfold dynamicGather
  congr 1
  funext b
  match b with
  | ⟨0, _⟩ => rfl
  | ⟨1, _⟩ =>
    apply Fin.ext
    show (laneIdx _ (ix2 r l)).toNat % 128 = _
    rw [laneIdx_row, laneIdx_toNat]
    have := t.isLt
    have := l.isLt
    show (16 * t.val + l.val / 8) % 128 = 16 * t.val + l.val / 8
    omega

/-- The lanes the scales of tile `t` are gathered from: the first 128 columns of the scales, the second, or the last 64 twice. -/
def tileSrc (v0 : Vec Ideal S256x320 .fp8e4m3) : Nat → FVec Ideal S256x128 .f32
  | 0 => extractStridedSlice S256x128 ![0, 0] (k1_pay1 v0) slices_S256x320_o0_0_S256x128
  | 1 => extractStridedSlice S256x128 ![0, 128] (k1_pay1 v0) slices_S256x320_o0_128_S256x128
  | _ + 2 => concatenate S256x128 1 [⟨S256x64, extractStridedSlice S256x64 ![0, 256] (k1_pay1 v0) slices_S256x320_o0_256_S256x64⟩,
      ⟨S256x64, extractStridedSlice S256x64 ![0, 256] (k1_pay1 v0) slices_S256x320_o0_256_S256x64⟩]
      concatenates_S256x64_S256x64_S256x128_d1

/-- The source's lane `c` is the scales' column `128 g + c`. -/
theorem tileSrc_apply (v0 : Vec Ideal S256x320 .fp8e4m3) (g : Nat) (hg : g < 3) (r : Fin 256) (c : Fin 128)
    (h : 128 * g + c.val < 320) : tileSrc v0 g (ix2 r c) = v0 (ix2 r ⟨128 * g + c.val, h⟩) := by
  have e0 : k1_pay1 v0 = v0 := by
    unfold k1_pay1
    dsimp only
    rw [shapeCast_self]
    rfl
  obtain rfl | rfl | rfl : g = 0 ∨ g = 1 ∨ g = 2 := by omega
  · unfold tileSrc
    rw [e0]
    pointwise
  · unfold tileSrc
    rw [e0]
    pointwise
  · have hc : c.val < 64 := by omega
    unfold tileSrc
    rw [e0]
    pointwise
    rw [dif_pos hc]

/-- The scale of tile `t` at row `r`, lane `l`: one scale for eight columns. -/
theorem tile_scale (v0 : Vec Ideal S256x320 .fp8e4m3) (t : Fin 20) (r : Fin 256) (l : Fin 128) :
    scaleTile (tileSrc v0 (t.val / 8)) (BitVec.ofNat 32 (16 * (t.val % 8))) (ix2 r l)
      = v0 (ix2 r ⟨(128 * t.val + l.val) / 8, by omega⟩) := by
  rw [scaleTile_apply _ ⟨t.val % 8, by omega⟩ r l]
  rw [tileSrc_apply v0 _ (by omega) r _ (by dsimp only; omega)]
  congr 2
  apply Fin.ext
  dsimp only
  omega

end Cert.Proof

end
-- ==== Proof.Unpacked.lean ====
/- The kernel's left operand: the 40 stores of its unpacking (a low and a high half per tile) leave one array,
   the low codes' values in columns 0 to 2559 and the high codes' in columns 2560 to 5119. -/
module

public import proofs.«01_k».proof.Proof.Tile
public import proofs.«01_k».proof.Proof.Gen.KernelIdeal.Frame
public import Idealize.ShloMosaic.Lib.WholeRead

@[expose] public section

set_option maxRecDepth 16384

noncomputable section

namespace Cert.Proof

open Idealize.ShloMosaic Idealize.ShloMosaic.TcCoe Cert.KernelIdeal Cert.KernelIdeal.Gen

/-- The unpacked operand at row `r`, column `k`: column `k < 2560` is the low code of byte `k`, column `2560 + k` its high
    code, each times the scale of its group of eight bytes. -/
def unpackedAt {R : Nat} (x2 : (⟨2, ![R, 2560]⟩ : Shape).Idx → BitVec 8) (x3 : (⟨2, ![R, 320]⟩ : Shape).Idx → EReal) (r : Fin R)
    (k : Fin 5120) : EReal :=
  if h : k.val < 2560 then lowV (x2 (ix2 r ⟨k.val, h⟩)) * x3 (ix2 r ⟨k.val / 8, by omega⟩)
  else highV (x2 (ix2 r ⟨k.val - 2560, by omega⟩)) * x3 (ix2 r ⟨(k.val - 2560) / 8, by omega⟩)

/-- A low column. -/
theorem unpackedAt_low {R : Nat} (x2 : (⟨2, ![R, 2560]⟩ : Shape).Idx → BitVec 8) (x3 : (⟨2, ![R, 320]⟩ : Shape).Idx → EReal)
    (r : Fin R) (k : Fin 2560) : unpackedAt x2 x3 r ⟨k.val, by omega⟩ = lowV (x2 (ix2 r k)) * x3 (ix2 r ⟨k.val / 8, by omega⟩) := by
  unfold unpackedAt
  rw [dif_pos k.isLt]

/-- A high column. -/
theorem unpackedAt_high {R : Nat} (x2 : (⟨2, ![R, 2560]⟩ : Shape).Idx → BitVec 8) (x3 : (⟨2, ![R, 320]⟩ : Shape).Idx → EReal)
    (r : Fin R) (k : Fin 2560) :
    unpackedAt x2 x3 r ⟨2560 + k.val, by omega⟩ = highV (x2 (ix2 r k)) * x3 (ix2 r ⟨k.val / 8, by omega⟩) := by
  have hk : 2560 + k.val - 2560 = k.val := by omega
  unfold unpackedAt
  rw [dif_neg (by dsimp only; omega)]
  simp only [hk]

/-- The unpacked operand of a block. -/
def unpacked (x2 : Vec Ideal S256x2560 .i8) (x3 : Vec Ideal S256x320 .fp8e4m3) : Vec Ideal S256x5120 .bf16 := fun j =>
  unpackedAt x2 x3 (j 0) (j 1)

/-- The columns of tile `t`'s low half lie in the operand. -/
theorem low_inb (t : Fin 20) : ∀ a, (![0, 128 * t.val] : Fin 2 → Nat) a + S256x128.size a ≤ S256x5120.size a := by
  intro a
  match a with
  | ⟨0, _⟩ => show 0 + 256 ≤ 256; omega
  | ⟨1, _⟩ => show 128 * t.val + 128 ≤ 5120; omega

/-- The columns of tile `t`'s high half lie in the operand. -/
theorem high_inb (t : Fin 20) : ∀ a, (![0, 2560 + 128 * t.val] : Fin 2 → Nat) a + S256x128.size a ≤ S256x5120.size a := by
  intro a
  match a with
  | ⟨0, _⟩ => show 0 + 256 ≤ 256; omega
  | ⟨1, _⟩ => show 2560 + 128 * t.val + 128 ≤ 5120; omega

/-- The columns of tile `t` lie in the codes. -/
theorem codes_inb (t : Fin 20) : ∀ a, (![0, 128 * t.val] : Fin 2 → Nat) a + S256x128.size a ≤ S256x2560.size a := by
  intro a
  match a with
  | ⟨0, _⟩ => show 0 + 256 ≤ 256; omega
  | ⟨1, _⟩ => show 128 * t.val + 128 ≤ 2560; omega

/-- The store of tile `t`'s low half. -/
def lowPiece (v0 : Vec Ideal S256x320 .fp8e4m3) (xs : Fin 20 → Vec Ideal S256x128 .i8) (t : Fin 20) :
    View.Piece (Elt Ideal) S256x5120 .bf16 :=
  ⟨Rect.unit (s := S256x5120) ![0, 128 * t.val] S256x128.size (low_inb t),
    lowTile (scaleTile (tileSrc v0 (t.val / 8)) (BitVec.ofNat 32 (16 * (t.val % 8)))) (xs t)⟩

/-- The store of tile `t`'s high half. -/
def highPiece (v0 : Vec Ideal S256x320 .fp8e4m3) (xs : Fin 20 → Vec Ideal S256x128 .i8) (t : Fin 20) :
    View.Piece (Elt Ideal) S256x5120 .bf16 :=
  ⟨Rect.unit (s := S256x5120) ![0, 2560 + 128 * t.val] S256x128.size (high_inb t),
    highTile (scaleTile (tileSrc v0 (t.val / 8)) (BitVec.ofNat 32 (16 * (t.val % 8)))) (xs t)⟩

/-- The stores of the first `n` tiles, the last first. -/
def pieces (v0 : Vec Ideal S256x320 .fp8e4m3) (xs : Fin 20 → Vec Ideal S256x128 .i8) :
    (n : Nat) → n ≤ 20 → List (View.Piece (Elt Ideal) S256x5120 .bf16)
  | 0, _ => []
  | n + 1, h => highPiece v0 xs ⟨n, h⟩ :: lowPiece v0 xs ⟨n, h⟩ :: pieces v0 xs n (Nat.le_of_succ_le h)

/-- A store is in the list when it is a tile's low or high half. -/
theorem mem_pieces (v0 : Vec Ideal S256x320 .fp8e4m3) (xs : Fin 20 → Vec Ideal S256x128 .i8)
    (p : View.Piece (Elt Ideal) S256x5120 .bf16) : ∀ (n : Nat) (h : n ≤ 20),
    p ∈ pieces v0 xs n h ↔ ∃ t : Fin 20, t.val < n ∧ (p = lowPiece v0 xs t ∨ p = highPiece v0 xs t)
  | 0, _ => by simp [pieces]
  | n + 1, h => by
    simp only [pieces, List.mem_cons]
    rw [mem_pieces v0 xs p n]
    constructor
    · rintro (e | e | ⟨t, ht, e⟩)
      · exact ⟨⟨n, h⟩, Nat.lt_succ_self n, .inr e⟩
      · exact ⟨⟨n, h⟩, Nat.lt_succ_self n, .inl e⟩
      · exact ⟨t, by omega, e⟩
    · rintro ⟨t, ht, e⟩
      by_cases hn : t.val = n
      · obtain rfl : t = ⟨n, h⟩ := Fin.ext hn
        exact e.elim (fun e => .inr (.inl e)) .inl
      · exact .inr (.inr ⟨t, by omega, e⟩)

set_option maxHeartbeats 4000000 in
/-- The stores the kernel's run records are those of the 20 tiles. -/
theorem stores_eq (c : Dev nD) (arg3 : Memref sig .tc .vmem S256x2560 .i8) (harg3 : arg3.IsWhole)
    (arg4 : Memref sig .tc .vmem S256x320 .fp8e4m3) (harg4 : arg4.IsWhole) (x2 : Vec Ideal S256x2560 .i8)
    (x3 : Vec Ideal S256x320 .fp8e4m3) :
    kernelRun1_A.sl.HS0_40 (F := Ideal) c arg3 harg3 arg4 harg4 x2 x3
      = pieces (View.readAt (Elt Ideal) arg4.view (Rect.unit (s := S256x320) ![0, 0] S256x320.size inb_S256x320_S256x320_0_0).toLoadRect (harg4.unread x3))
        (fun t => View.readAt (Elt Ideal) arg3.view (Rect.unit (s := S256x2560) ![0, 128 * t.val] S256x128.size (codes_inb t)).toLoadRect (harg3.unread x2))
        20 le_rfl := by
  rfl

/-- A load of a whole array through its own whole memref reads the array. -/
theorem load_whole {sp : Space} {s : Shape} {e : EltTy} (M : Memref sig .tc sp s e) (hM : M.IsWhole) (X : s.Idx → Elt Ideal e)
    {off : Fin s.rank → Nat} (ho : off = fun _ => 0) (inb : ∀ a, off a + s.size a ≤ s.size a) :
    View.readAt (Elt Ideal) M.view (Rect.unit (s := s) off s.size inb).toLoadRect (hM.unread X) = X := by
  subst ho
  funext y
  rw [hM.readAt_unread]
  congr 1
  funext a
  apply Fin.ext
  show 0 + 1 * (y a).val = (y a).val
  omega

/-- The zero offsets of a rank-2 load. -/
theorem zero2 : (![0, 0] : Fin 2 → Nat) = fun _ => 0 := by
  funext a
  match a with
  | ⟨0, _⟩ => rfl
  | ⟨1, _⟩ => rfl

/-- A load of tile `t`'s codes reads the codes at its columns. -/
theorem load_codes (arg3 : Memref sig .tc .vmem S256x2560 .i8) (harg3 : arg3.IsWhole) (x2 : Vec Ideal S256x2560 .i8) (t : Fin 20)
    (r : Fin 256) (l : Fin 128) :
    View.readAt (Elt Ideal) arg3.view (Rect.unit (s := S256x2560) ![0, 128 * t.val] S256x128.size (codes_inb t)).toLoadRect
      (harg3.unread x2) (ix2 r l) = x2 (ix2 r ⟨128 * t.val + l.val, by omega⟩) := by
  rw [harg3.readAt_unread]
  congr 1
  funext a
  apply Fin.ext
  match a with
  | ⟨0, _⟩ => show 0 + 1 * r.val = r.val; omega
  | ⟨1, _⟩ => show 128 * t.val + 1 * l.val = 128 * t.val + l.val; omega

/-- Tile `t`'s low half holds the unpacked operand's values at its columns. -/
theorem lowPiece_value (x2 : Vec Ideal S256x2560 .i8) (x3 : Vec Ideal S256x320 .fp8e4m3) (xs : Fin 20 → Vec Ideal S256x128 .i8)
    (hxs : ∀ t r l, xs t (ix2 r l) = x2 (ix2 r ⟨128 * t.val + l.val, by omega⟩)) (t : Fin 20) (r : Fin 256) (l : Fin 128) :
    lowTile (scaleTile (tileSrc x3 (t.val / 8)) (BitVec.ofNat 32 (16 * (t.val % 8)))) (xs t) (ix2 r l)
      = unpacked x2 x3 ((Rect.unit (s := S256x5120) ![0, 128 * t.val] S256x128.size (low_inb t)).emb (ix2 r l)) := by
  have e : (Rect.unit (s := S256x5120) ![0, 128 * t.val] S256x128.size (low_inb t)).emb (ix2 r l)
      = ix2 r ⟨128 * t.val + l.val, by omega⟩ := by
    funext a
    apply Fin.ext
    match a with
    | ⟨0, _⟩ => show 0 + 1 * r.val = r.val; omega
    | ⟨1, _⟩ => show 128 * t.val + 1 * l.val = 128 * t.val + l.val; omega
  rw [e, lowTile_apply, tile_scale, hxs]
  exact (unpackedAt_low x2 x3 r ⟨128 * t.val + l.val, by omega⟩).symm

/-- Tile `t`'s high half holds the unpacked operand's values at its columns. -/
theorem highPiece_value (x2 : Vec Ideal S256x2560 .i8) (x3 : Vec Ideal S256x320 .fp8e4m3) (xs : Fin 20 → Vec Ideal S256x128 .i8)
    (hxs : ∀ t r l, xs t (ix2 r l) = x2 (ix2 r ⟨128 * t.val + l.val, by omega⟩)) (t : Fin 20) (r : Fin 256) (l : Fin 128) :
    highTile (scaleTile (tileSrc x3 (t.val / 8)) (BitVec.ofNat 32 (16 * (t.val % 8)))) (xs t) (ix2 r l)
      = unpacked x2 x3 ((Rect.unit (s := S256x5120) ![0, 2560 + 128 * t.val] S256x128.size (high_inb t)).emb (ix2 r l)) := by
  have e : (Rect.unit (s := S256x5120) ![0, 2560 + 128 * t.val] S256x128.size (high_inb t)).emb (ix2 r l)
      = ix2 r ⟨2560 + 128 * t.val + l.val, by omega⟩ := by
    funext a
    apply Fin.ext
    match a with
    | ⟨0, _⟩ => show 0 + 1 * r.val = r.val; omega
    | ⟨1, _⟩ => show 2560 + 128 * t.val + 1 * l.val = 2560 + 128 * t.val + l.val; omega
  rw [e, highTile_apply, tile_scale, hxs]
  refine (unpackedAt_high x2 x3 r ⟨128 * t.val + l.val, by omega⟩).symm.trans ?_
  unfold unpacked
  congr 1
  exact Fin.ext (Nat.add_assoc _ _ _).symm

/-- The stores cover the operand: column `k` lies in the low half of tile `k / 128`, or in a high half. -/
theorem pieces_cover (v0 : Vec Ideal S256x320 .fp8e4m3) (xs : Fin 20 → Vec Ideal S256x128 .i8) (y : S256x5120.Idx) :
    ∃ p ∈ pieces v0 xs 20 le_rfl, y ∈ p.1.set := by
  have h1 : (y 1).val < 5120 := (y 1).isLt
  by_cases h : (y 1).val < 2560
  · refine ⟨lowPiece v0 xs ⟨(y 1).val / 128, by omega⟩, (mem_pieces v0 xs _ _ _).2 ⟨_, by dsimp only; omega, .inl rfl⟩,
      (Rect.mem_set_unit (inb := low_inb _)).2 fun a => ?_⟩
    match a with
    | ⟨0, _⟩ => exact ⟨Nat.zero_le _, by show (y 0).val < 0 + 256; have : (y 0).val < 256 := (y 0).isLt; omega⟩
    | ⟨1, _⟩ =>
      show 128 * ((y 1).val / 128) ≤ (y 1).val ∧ (y 1).val < 128 * ((y 1).val / 128) + 128
      omega
  · refine ⟨highPiece v0 xs ⟨((y 1).val - 2560) / 128, by omega⟩, (mem_pieces v0 xs _ _ _).2 ⟨_, by dsimp only; omega, .inr rfl⟩,
      (Rect.mem_set_unit (inb := high_inb _)).2 fun a => ?_⟩
    match a with
    | ⟨0, _⟩ => exact ⟨Nat.zero_le _, by show (y 0).val < 0 + 256; have : (y 0).val < 256 := (y 0).isLt; omega⟩
    | ⟨1, _⟩ =>
      show 2560 + 128 * (((y 1).val - 2560) / 128) ≤ (y 1).val ∧ (y 1).val < 2560 + 128 * (((y 1).val - 2560) / 128) + 128
      omega

/-- What the kernel's matrix product reads as its left operand. -/
theorem operand_eq (c : Dev nD) (arg3 : Memref sig .tc .vmem S256x2560 .i8) (harg3 : arg3.IsWhole)
    (arg4 : Memref sig .tc .vmem S256x320 .fp8e4m3) (harg4 : arg4.IsWhole) (arg7 : Memref sig .tc .vmem S256x5120 .bf16)
    (x2 : Vec Ideal S256x2560 .i8) (x3 : Vec Ideal S256x320 .fp8e4m3) :
    kernelRun1_A.sl.v892 (F := Ideal) c arg3 harg3 arg4 harg4 arg7 x2 x3 = unpacked x2 x3 := by
  unfold kernelRun1_A.sl.v892
  rw [stores_eq, load_whole arg4 harg4 x3 zero2, View.readCov_eq_canon']
  funext j
  have ej : (Rect.unit (s := S256x5120) ![0, 0] S256x5120.size inb_S256x5120_S256x5120_0_0).toLoadRect.idx j = j := by
    funext a
    apply Fin.ext
    match a with
    | ⟨0, _⟩ => show 0 + 1 * (j 0).val = (j 0).val; omega
    | ⟨1, _⟩ => show 0 + 1 * (j 1).val = (j 1).val; omega
  refine (congrArg _ ej).trans (View.canon_apply_of_pieces _ _ (fun p hp x => ?_) j (pieces_cover _ _ j))
  obtain ⟨t, -, rfl | rfl⟩ := (mem_pieces _ _ _ _ _).1 hp
  · obtain ⟨r, l, rfl⟩ : ∃ (r : Fin 256) (l : Fin 128), x = ix2 r l := ⟨x 0, x 1, eq_ix2 x⟩
    exact lowPiece_value x2 x3 _ (load_codes arg3 harg3 x2) t r l
  · obtain ⟨r, l, rfl⟩ : ∃ (r : Fin 256) (l : Fin 128), x = ix2 r l := ⟨x 0, x 1, eq_ix2 x⟩
    exact highPiece_value x2 x3 _ (load_codes arg3 harg3 x2) t r l

end Cert.Proof

end
-- ==== Proof.Weights.lean ====
/- The first region: the weights' codes decoded and scaled, the low codes in one half of its result and the high codes in
   the other. -/
module

public import proofs.«01_k».proof.Proof.Tile
public import proofs.«01_k».proof.Proof.Unpacked
public import Idealize.ShloMosaic.Lib.Pipeline.ValueKit

@[expose] public section

set_option maxRecDepth 16384

noncomputable section

namespace Cert.Proof

open Idealize.ShloMosaic Idealize.ShloMosaic.TcCoe Cert.KernelIdeal Cert.KernelIdeal.Gen
open Idealize.ShloMosaic.Pipeline (Dat)

/-- What the low (`0`) or high (`1`) code of a byte is worth, over 64. -/
def halfV (h : Fin 2) (b : BitVec 8) : EReal := if h = 0 then lowV b else highV b

/-- The constant the kernel multiplies the weights' scales by. -/
def boost : EReal := Ideal.ofBits .bf16 0x4580#16

/-- The weights' scales of a block, at an index: one scale for eight rows. -/
theorem blockScale_apply (s : Vec Ideal S32x3456 .fp8e4m3) (r : Fin 256) (n : Fin 3456) :
    k0_pay2 (F := Ideal) s (ix2 r n) = s (ix2 ⟨r.val / 8, by omega⟩ n) * boost := by
  unfold k0_pay2 boost
  pointwise

/-- A block with a leading axis of one element added, at an index. -/
theorem lead_apply (v : FVec Ideal S256x3456 .bf16) (r : Fin 256) (n : Fin 3456) :
    shapeCast S1x256x3456 v shapeCasts_S256x3456_S1x256x3456 (ix3 0 r n) = v (ix2 r n) := by
  pointwise

/-- The low half's store, at an index. -/
theorem lowStore_apply (x : Vec Ideal S256x3456 .i8) (s : Vec Ideal S32x3456 .fp8e4m3) (r : Fin 256) (n : Fin 3456) :
    k0_pay3 (F := Ideal) x s (ix3 0 r n) = lowV (x (ix2 r n)) * (s (ix2 ⟨r.val / 8, by omega⟩ n) * boost) := by
  rw [← blockScale_apply]
  unfold k0_pay3
  refine (lead_apply _ r n).trans ?_
  exact congrArg (· * k0_pay2 (F := Ideal) s (ix2 r n))
    (floats_low x bitcasts_S256x3456_w8_S64x3456_w32 bitcasts_S64x3456_w32_S256x3456_w8 rfl r n)

/-- The high half's store, at an index. -/
theorem highStore_apply (x : Vec Ideal S256x3456 .i8) (s : Vec Ideal S32x3456 .fp8e4m3) (r : Fin 256) (n : Fin 3456) :
    k0_pay4 (F := Ideal) x s (ix3 0 r n) = highV (x (ix2 r n)) * (s (ix2 ⟨r.val / 8, by omega⟩ n) * boost) := by
  rw [← blockScale_apply]
  unfold k0_pay4
  refine (lead_apply _ r n).trans ?_
  exact congrArg (· * k0_pay2 (F := Ideal) s (ix2 r n))
    (floats_high x bitcasts_S256x3456_w8_S64x3456_w32 bitcasts_S64x3456_w32_S256x3456_w8 rfl r n)

/-- The weights at an index: half `h`, row `k`, column `n`. -/
def weightAt {K Q : Nat} (x : (⟨2, ![K, 3456]⟩ : Shape).Idx → BitVec 8) (s : (⟨2, ![Q, 3456]⟩ : Shape).Idx → EReal) (hQ : K = 8 * Q)
    (h : Fin 2) (k : Fin K) (n : Fin 3456) : EReal :=
  halfV h (x (ix2 k n)) * (s (ix2 ⟨k.val / 8, by omega⟩ n) * boost)

/-- An index of one half of the block is `0` on the leading axis. -/
theorem lead_index (z : S1x256x3456.Idx) : ∃ (r : Fin 256) (n : Fin 3456), z = ix3 0 r n :=
  ⟨z 1, z 2, (eq_ix3 z).trans (congrArg (fun a => ix3 a (z 1) (z 2)) (Subsingleton.elim (α := Fin 1) _ _))⟩

/-- The weights of a block. -/
def weightBlock (x : Vec Ideal S256x3456 .i8) (s : Vec Ideal S32x3456 .fp8e4m3) : Vec Ideal S2x256x3456 .bf16 := fun y =>
  weightAt x s (by decide) (y 0) (y 1) (y 2)

/-- What the body leaves in its block: the weights of the block. -/
theorem weightBlock_eq (x : Vec Ideal S256x3456 .i8) (s : Vec Ideal S32x3456 .fp8e4m3) : out0_2 (F := Ideal) x s = weightBlock x s := by
  funext y
  unfold out0_2
  refine View.canon_apply_of_pieces (weightBlock x s) _ (fun p hp z => ?_) y (cover0_2 _ _ y)
  have hx : View.ld (Val := Elt Ideal) (e' := .i8) x r0_0 = x := View.ld_unit_zero zero2 _ x
  have hs : View.ld (Val := Elt Ideal) (e' := .fp8e4m3) s r0_1 = s := View.ld_unit_zero zero2 _ s
  rw [hx, hs] at hp
  simp only [List.mem_cons, List.not_mem_nil, or_false] at hp
  obtain rfl | rfl := hp
  · obtain ⟨r, n, rfl⟩ := lead_index z
    refine (highStore_apply x s r n).trans ?_
    have e : r0_3.emb (ix3 0 r n) = ix3 1 r n := by
      funext a
      apply Fin.ext
      match a with
      | ⟨0, _⟩ => rfl
      | ⟨1, _⟩ => show 0 + 1 * r.val = r.val; omega
      | ⟨2, _⟩ => show 0 + 1 * n.val = n.val; omega
    exact (congrArg (weightBlock x s) e).symm
  · obtain ⟨r, n, rfl⟩ := lead_index z
    refine (lowStore_apply x s r n).trans ?_
    have e : r0_2.emb (ix3 0 r n) = ix3 0 r n := by
      funext a
      apply Fin.ext
      match a with
      | ⟨0, _⟩ => rfl
      | ⟨1, _⟩ => show 0 + 1 * r.val = r.val; omega
      | ⟨2, _⟩ => show 0 + 1 * n.val = n.val; omega
    exact (congrArg (weightBlock x s) e).symm

variable (V : (c : Dev nD) → (b : Ref sig .tc) → Buf (Elt Ideal) ((c : Thread nD τ).loc b))

/-- The first region's result from the arrays it reads. -/
def weights (x : Vec Ideal S2560x3456 .i8) (s : Vec Ideal S320x3456 .fp8e4m3) : Vec Ideal S2x2560x3456 .bf16 := fun y =>
  weightAt x s (by decide) (y 0) (y 1) (y 2)

/-- The block each window of the first region is at. -/
theorem idx0 : ∀ t : Fin cfg0.N, win0_0.index t = ![t.val, 0] ∧ win0_1.index t = ![t.val, 0] ∧ win0_2.index t = ![0, t.val, 0] :=
  (by decide +kernel : ∀ t : Fin grid0.N, _)

/-- A grid point of the first region is one of ten. -/
theorem lt0 (t : Fin cfg0.N) : t.val < 10 := t.isLt

/-- A block of codes at an index. -/
theorem codes0_apply (c : Dev nD) (t : Fin cfg0.N) (r : Fin 256) (n : Fin 3456) :
    (iblk0 V c 0 t : Vec Ideal S256x3456 .i8) (ix2 r n)
      = (V c main_arg3 : Vec Ideal S2560x3456 .i8) (ix2 ⟨256 * t.val + r.val, by have := lt0 t; omega⟩ n) := by
  have e : (win0_0.blk t).view.emb (ix2 r n) = ix2 ⟨256 * t.val + r.val, by have := lt0 t; omega⟩ n := by
    blk_ext [(idx0 t).1]
  exact congrArg (V c main_arg3 : Vec Ideal S2560x3456 .i8) e

/-- A block of scales at an index. -/
theorem scales0_apply (c : Dev nD) (t : Fin cfg0.N) (q : Fin 32) (n : Fin 3456) :
    (iblk0 V c 1 t : Vec Ideal S32x3456 .fp8e4m3) (ix2 q n)
      = (V c main_arg4 : Vec Ideal S320x3456 .fp8e4m3) (ix2 ⟨32 * t.val + q.val, by have := lt0 t; omega⟩ n) := by
  have e : (win0_1.blk t).view.emb (ix2 q n) = ix2 ⟨32 * t.val + q.val, by have := lt0 t; omega⟩ n := by
    blk_ext [(idx0 t).2.1]
  exact congrArg (V c main_arg4 : Vec Ideal S320x3456 .fp8e4m3) e

/-- What the first region leaves in its result. -/
theorem weights_eq (c : Dev nD) : (dat0 V c).arrAt 2 cfg0.N = weights (V c main_arg3) (V c main_arg4) := by
  refine (dat0 V c).arrAt_eq_of_covers 2 _ (by decide +kernel) fun t hf y => ?_
  blk_simp
  rw [after0_2, weightBlock_eq]
  have ht := lt0 t
  obtain ⟨h, r, n, rfl⟩ : ∃ (h : Fin 2) (r : Fin 256) (n : Fin 3456), y = ix3 h r n := ⟨y 0, y 1, y 2, eq_ix3 y⟩
  have e : (win0_2.blk t).view.emb (ix3 h r n) = ix3 h ⟨256 * t.val + r.val, by omega⟩ n := by
    blk_ext [(idx0 t).2.2]
  refine Eq.trans ?_ (congrArg (weights (V c main_arg3) (V c main_arg4)) e).symm
  show weightAt _ _ _ h r n = weightAt _ _ _ h ⟨256 * t.val + r.val, _⟩ n
  unfold weightAt
  rw [codes0_apply, scales0_apply]
  congr 4
  apply Fin.ext
  show 32 * t.val + r.val / 8 = (256 * t.val + r.val) / 8
  omega

end Cert.Proof

end
-- ==== Proof.Block.lean ====
/- What one grid point of the second region leaves: its block of the result, as sums over the unpacked operand's columns. -/
module

public import proofs.«01_k».proof.Proof.Unpacked
public import Idealize.ShloMosaic.Lib.Pipeline.ValueKit

@[expose] public section

set_option maxRecDepth 16384

noncomputable section

namespace Cert.Proof

open Idealize.ShloMosaic Idealize.ShloMosaic.TcCoe Cert.KernelIdeal Cert.KernelIdeal.Gen
open Idealize.ShloMosaic.Pipeline (Dat)

/-- The word of the first scale a grid point reads: groups of three points alternate between the two. -/
theorem gain_offset : ∀ t : Fin grid1.N, k1_off1 (grid1.coords t) = ![(t.val / 3) % 2] := by
  decide +kernel

/-- The matrix product and the two scales, at an index. -/
theorem product_apply (X : Vec Ideal S256x5120 .bf16) (W : Vec Ideal S5120x3456 .bf16) (g h : EReal) (r : Fin 256) (n : Fin 3456) :
    k1_pay112 (F := Ideal) X W g h (ix2 r n) = (∑ k : Fin 5120, X (ix2 r k) * W (ix2 k n)) * g * h := by
  unfold k1_pay112
  pointwise

/-- What the body leaves in the result's block, at an index. -/
theorem block_apply (c : Dev nD) (i : grid1.Coords) (arg1 : Memref sig .tc .smem S2 .f32) (harg1 : arg1.IsWhole) (arg2 : Memref sig .tc .smem S1 .f32) (harg2 : arg2.IsWhole)
    (arg3 : Memref sig .tc .vmem S256x2560 .i8) (harg3 : arg3.IsWhole) (arg4 : Memref sig .tc .vmem S256x320 .fp8e4m3) (harg4 : arg4.IsWhole)
    (arg5 : Memref sig .tc .vmem S5120x3456 .bf16) (harg5 : arg5.IsWhole) (arg6 : Memref sig .tc .vmem S256x3456 .bf16) (harg6 : arg6.IsWhole)
    (arg7 : Memref sig .tc .vmem S256x5120 .bf16) (harg7 : arg7.IsWhole)
    (x0 : Vec Ideal S2 .f32) (x1 : Vec Ideal S1 .f32) (x2 : Vec Ideal S256x2560 .i8) (x3 : Vec Ideal S256x320 .fp8e4m3) (x4 : Vec Ideal S5120x3456 .bf16)
    (g : Fin 2) (hg : k1_off1 i = ![g.val]) (r : Fin 256) (n : Fin 3456) :
    out1_A_5 (F := Ideal) c i arg1 harg1 arg2 harg2 arg3 harg3 arg4 harg4 arg5 harg5 arg6 harg6 arg7 harg7 x0 x1 x2 x3 x4 (ix2 r n)
      = (∑ k : Fin 5120, unpackedAt x2 x3 r k * x4 (ix2 k n)) * x0 (ix1 g) * x1 (ix1 0) := by
  unfold out1_A_5
  rw [View.read_writes_junk_eq_canon]
  unfold kernelRun1_A
  dsimp only
  rw [View.canon_unit_zero zero2]
  unfold kernelRun1_A.sl.r_28
  rw [operand_eq]
  have e0 : kernelRun1_A.sl.r_26 (F := Ideal) c i arg1 harg1 x0 = x0 (ix1 g) := by
    unfold kernelRun1_A.sl.r_26
    rw [harg1.readAt_unread]
    congr 1
    funext a
    apply Fin.ext
    match a with
    | ⟨0, _⟩ =>
      show k1_off1 i 0 + 1 * 0 = g.val
      rw [hg]
      rfl
  have e1 : kernelRun1_A.sl.r_27 (F := Ideal) c arg2 harg2 x1 = x1 (ix1 0) := by
    unfold kernelRun1_A.sl.r_27
    rw [harg2.readAt_unread]
    congr 1
    funext a
    apply Fin.ext
    match a with
    | ⟨0, _⟩ => rfl
  rw [load_whole arg5 harg5 x4 zero2, e0, e1]
  exact product_apply _ _ _ _ r n

end Cert.Proof

end
-- ==== Proof.Product.lean ====
/- The second region: what it leaves in its result, row by row of the flattened left operand. -/
module

public import proofs.«01_k».proof.Proof.Block
public import Idealize.ShloMosaic.Lib.Pipeline.ValueKit

@[expose] public section

set_option maxRecDepth 16384

noncomputable section

namespace Cert.Proof

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The unpacked operand depends on one row of the codes and one row of the scales only. -/
theorem unpackedAt_congr {R S : Nat} (x2 : (⟨2, ![R, 2560]⟩ : Shape).Idx → BitVec 8) (x3 : (⟨2, ![R, 320]⟩ : Shape).Idx → EReal)
    (z2 : (⟨2, ![S, 2560]⟩ : Shape).Idx → BitVec 8) (z3 : (⟨2, ![S, 320]⟩ : Shape).Idx → EReal) (r : Fin R) (s : Fin S)
    (h2 : ∀ k, x2 (ix2 r k) = z2 (ix2 s k)) (h3 : ∀ q, x3 (ix2 r q) = z3 (ix2 s q)) (k : Fin 5120) :
    unpackedAt x2 x3 r k = unpackedAt z2 z3 s k := by
  unfold unpackedAt
  split
  · rw [h2, h3]
  · rw [h2, h3]

/-- The scaled product at row `m`, column `n`: the two scales of the left operand are for alternating runs of 768 rows. -/
def productAt (x2 : Vec Ideal S18432x2560 .i8) (x3 : Vec Ideal S18432x320 .fp8e4m3) (w : Vec Ideal S5120x3456 .bf16) (g : Vec Ideal S2 .f32)
    (h : Vec Ideal S1 .f32) (m : Fin 18432) (n : Fin 3456) : EReal :=
  (∑ k : Fin 5120, unpackedAt x2 x3 m k * w (ix2 k n)) * g (ix1 ⟨(m.val / 768) % 2, by omega⟩) * h (ix1 0)

/-- The scaled product. -/
def product (x2 : Vec Ideal S18432x2560 .i8) (x3 : Vec Ideal S18432x320 .fp8e4m3) (w : Vec Ideal S5120x3456 .bf16) (g : Vec Ideal S2 .f32)
    (h : Vec Ideal S1 .f32) : Vec Ideal S18432x3456 .bf16 := fun y => productAt x2 x3 w g h (y 0) (y 1)

/-- Which block of each array a grid point of the second region works on. -/
theorem idx1 : ∀ t : Fin grid1.N, win1_2.index t = ![t.val, 0] ∧ win1_3.index t = ![t.val, 0] ∧ win1_5.index t = ![t.val, 0]
    ∧ win1_4.index t = ![0, 0] ∧ win1_0.index t = ![0] ∧ win1_1.index t = ![0] := by
  decide +kernel

/-- A grid point of the second region is one of 72. -/
theorem lt1 (t : Fin cfg1.N) : t.val < 72 := t.isLt

/-- A block of the left operand's codes at an index. -/
theorem codes1_apply (c : Dev nD) (t : Fin cfg1.N) (r : Fin 256) (k : Fin 2560) :
    (iblk1 V c 2 t : Vec Ideal S256x2560 .i8) (ix2 r k)
      = (V c main_v1 : Vec Ideal S18432x2560 .i8) (ix2 ⟨256 * t.val + r.val, by have := lt1 t; omega⟩ k) := by
  have e : (win1_2.blk t).view.emb (ix2 r k) = ix2 ⟨256 * t.val + r.val, by have := lt1 t; omega⟩ k := by
    blk_ext [(idx1 t).1]
  exact congrArg (V c main_v1 : Vec Ideal S18432x2560 .i8) e

/-- A block of the left operand's scales at an index. -/
theorem scales1_apply (c : Dev nD) (t : Fin cfg1.N) (r : Fin 256) (q : Fin 320) :
    (iblk1 V c 3 t : Vec Ideal S256x320 .fp8e4m3) (ix2 r q)
      = (V c main_v2 : Vec Ideal S18432x320 .fp8e4m3) (ix2 ⟨256 * t.val + r.val, by have := lt1 t; omega⟩ q) := by
  have e : (win1_3.blk t).view.emb (ix2 r q) = ix2 ⟨256 * t.val + r.val, by have := lt1 t; omega⟩ q := by
    blk_ext [(idx1 t).2.1]
  exact congrArg (V c main_v2 : Vec Ideal S18432x320 .fp8e4m3) e

/-- The right operand, held whole, at an index. -/
theorem right1_apply (c : Dev nD) (t : Fin cfg1.N) (k : Fin 5120) (n : Fin 3456) :
    (iblk1 V c 4 t : Vec Ideal S5120x3456 .bf16) (ix2 k n) = (V c main_v3 : Vec Ideal S5120x3456 .bf16) (ix2 k n) := by
  have e : (win1_4.blk t).view.emb (ix2 k n) = ix2 k n := by
    blk_ext [(idx1 t).2.2.2.1]
  exact congrArg (V c main_v3 : Vec Ideal S5120x3456 .bf16) e

/-- The left operand's two scales, held whole, at an index. -/
theorem gain1_apply (c : Dev nD) (t : Fin cfg1.N) (g : Fin 2) :
    (iblk1 V c 0 t : Vec Ideal S2 .f32) (ix1 g) = (V c main_arg2 : Vec Ideal S2 .f32) (ix1 g) := by
  have e : (win1_0.blk t).view.emb (ix1 g) = ix1 g := by
    blk_ext [(idx1 t).2.2.2.2.1]
  exact congrArg (V c main_arg2 : Vec Ideal S2 .f32) e

/-- The right operand's scale at its index. -/
theorem unit1_apply (c : Dev nD) (t : Fin cfg1.N) (g : Fin 1) :
    (iblk1 V c 1 t : Vec Ideal S1 .f32) (ix1 g) = (V c main_arg5 : Vec Ideal S1 .f32) (ix1 g) := by
  have e : (win1_1.blk t).view.emb (ix1 g) = ix1 g := by
    blk_ext [(idx1 t).2.2.2.2.2]
  exact congrArg (V c main_arg5 : Vec Ideal S1 .f32) e

/-- What the second region leaves in its result. -/
theorem product_eq (c : Dev nD) :
    (dat1 V c).arrAt 5 cfg1.N = product (V c main_v1) (V c main_v2) (V c main_v3) (V c main_arg2) (V c main_arg5) := by
  refine (dat1 V c).arrAt_eq_of_covers 5 _ (by decide +kernel) fun t hf y => ?_
  blk_simp
  rw [after1_5]
  have ht := lt1 t
  obtain ⟨r, n, rfl⟩ : ∃ (r : Fin 256) (n : Fin 3456), y = ix2 r n := ⟨y 0, y 1, eq_ix2 y⟩
  have e : (win1_5.blk t).view.emb (ix2 r n) = ix2 ⟨256 * t.val + r.val, by omega⟩ n := by
    blk_ext [(idx1 t).2.2.1]
  refine Eq.trans ?_ (congrArg (product (V c main_v1) (V c main_v2) (V c main_v3) (V c main_arg2) (V c main_arg5)) e).symm
  unfold outsAt1
  rw [block_apply (g := ⟨(t.val / 3) % 2, by omega⟩) (hg := gain_offset t)]
  show _ = productAt _ _ _ _ _ ⟨256 * t.val + r.val, _⟩ n
  unfold productAt
  rw [gain1_apply, unit1_apply]
  have hg : (256 * t.val + r.val) / 768 % 2 = t.val / 3 % 2 := by omega
  simp only [hg, right1_apply]
  congr 2
  refine Finset.sum_congr rfl fun k _ => ?_
  rw [unpackedAt_congr _ _ _ _ r ⟨256 * t.val + r.val, by omega⟩ (fun k => codes1_apply V c t r k) (fun q => scales1_apply V c t r q)]

end Cert.Proof

end
-- ==== Proof.Result.lean ====
/- The kernel program's result as a function of its arguments: the two regions, and the reshapes between and around them. -/
module

public import proofs.«01_k».proof.Proof.Weights
public import proofs.«01_k».proof.Proof.Product
public import proofs.«01_k».proof.Proof.Gen.KernelIdeal.Frame
public import Idealize.ShloMosaic.Lib.StableHlo.Run

@[expose] public section

set_option maxRecDepth 16384

noncomputable section

namespace Cert.Proof

open Idealize.ShloMosaic Idealize.ShloMosaic.TcCoe Cert.KernelIdeal Cert.KernelIdeal.Gen
open Idealize.ShloMosaic.Pipeline (Dat)

variable (m : (ℓ : Loc nD τ sig) → Buf (Elt Ideal) ℓ) (ρ : Dev nD → PrngReg)

/-- The left operand's codes as the second region finds them. -/
theorem codes_reshaped (c : Dev nD) : V2 m ρ c main_v1
    = shapeCast S18432x2560 (m ((c : Thread nD τ).loc main_arg0) : Vec Ideal S12x1536x2560 .i8) shapeCasts_S12x1536x2560_S18432x2560 := by
  show StableHlo.after hostOps1 _ (Proc.devRef .tc main_v1) = _
  after_results
  rw [W1_args m ρ c main_arg0 (by decide)]
  rfl

/-- The left operand's scales as the second region finds them. -/
theorem scales_reshaped (c : Dev nD) : V2 m ρ c main_v2
    = shapeCast S18432x320 (m ((c : Thread nD τ).loc main_arg1) : Vec Ideal S12x1536x320 .fp8e4m3) shapeCasts_S12x1536x320_S18432x320 := by
  show StableHlo.after hostOps1 _ (Proc.devRef .tc main_v2) = _
  after_results
  rw [W1_args m ρ c main_arg1 (by decide)]
  rfl

/-- The right operand as the second region finds it: the first region's result, its two halves one after the other. -/
theorem right_reshaped (c : Dev nD) : V2 m ρ c main_v3
    = shapeCast S5120x3456 (weights (m ((c : Thread nD τ).loc main_arg3)) (m ((c : Thread nD τ).loc main_arg4)))
        shapeCasts_S2x2560x3456_S5120x3456 := by
  show StableHlo.after hostOps1 _ (Proc.devRef .tc main_v3) = _
  after_results
  rw [show W1 m ρ c (Proc.devRef .tc main_v0) = _ from W1_arr m ρ c 2, weights_eq]
  rfl

/-- The kernel program's result, as a function of its arguments. -/
def result (a0 : Vec Ideal S12x1536x2560 .i8) (a1 : Vec Ideal S12x1536x320 .fp8e4m3) (a2 : Vec Ideal S2 .f32)
    (a3 : Vec Ideal S2560x3456 .i8) (a4 : Vec Ideal S320x3456 .fp8e4m3) (a5 : Vec Ideal S1 .f32) : Vec Ideal S12x1536x3456 .bf16 :=
  shapeCast S12x1536x3456
    (product (shapeCast S18432x2560 a0 shapeCasts_S12x1536x2560_S18432x2560) (shapeCast S18432x320 a1 shapeCasts_S12x1536x320_S18432x320)
      (shapeCast S5120x3456 (weights a3 a4) shapeCasts_S2x2560x3456_S5120x3456) a2 a5)
    shapeCasts_S18432x3456_S12x1536x3456

/-- What the program leaves in its result array. -/
theorem result_eq (c : Dev nD) : W4 m ρ c main_v5
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  show StableHlo.after hostOps2 _ (Proc.devRef .tc main_v5) = _
  after_results
  rw [show W3 m ρ c (Proc.devRef .tc main_v4) = _ from W3_arr m ρ c 5, product_eq, codes_reshaped, scales_reshaped, right_reshaped,
    show V2 m ρ c main_arg2 = _ from W2_args m ρ c main_arg2 (by decide), show V2 m ρ c main_arg5 = _ from W2_args m ρ c main_arg5 (by decide)]
  rfl

/-- The right operand's first 2560 rows are the low codes. -/
theorem right_low (a3 : Vec Ideal S2560x3456 .i8) (a4 : Vec Ideal S320x3456 .fp8e4m3) (k : Fin 2560) (n : Fin 3456) :
    shapeCast S5120x3456 (weights a3 a4) shapeCasts_S2x2560x3456_S5120x3456 (ix2 ⟨k.val, by omega⟩ n)
      = lowV (a3 (ix2 k n)) * (a4 (ix2 ⟨k.val / 8, by omega⟩ n) * boost) := by
  have h0 : (⟨k.val / 2560, by omega⟩ : Fin 2) = 0 := Fin.ext (by show k.val / 2560 = 0; omega)
  have h1 : (⟨k.val % 2560, by omega⟩ : Fin 2560) = k := Fin.ext (by show k.val % 2560 = k.val; omega)
  pointwise
  rw [h0, h1]
  rfl

/-- The right operand's last 2560 rows are the high codes. -/
theorem right_high (a3 : Vec Ideal S2560x3456 .i8) (a4 : Vec Ideal S320x3456 .fp8e4m3) (k : Fin 2560) (n : Fin 3456) :
    shapeCast S5120x3456 (weights a3 a4) shapeCasts_S2x2560x3456_S5120x3456 (ix2 ⟨2560 + k.val, by omega⟩ n)
      = highV (a3 (ix2 k n)) * (a4 (ix2 ⟨k.val / 8, by omega⟩ n) * boost) := by
  have h0 : (⟨(2560 + k.val) / 2560, by omega⟩ : Fin 2) = 1 := Fin.ext (by show (2560 + k.val) / 2560 = 1; omega)
  pointwise
  rw [h0]
  rfl

/-- The reshaped left codes at row `b * 1536 + s`. -/
theorem codes_row (a0 : Vec Ideal S12x1536x2560 .i8) (b : Fin 12) (s : Fin 1536) (k : Fin 2560) :
    shapeCast S18432x2560 a0 shapeCasts_S12x1536x2560_S18432x2560 (ix2 ⟨b.val * 1536 + s.val, by omega⟩ k) = a0 (ix3 b s k) := by
  pointwise

/-- The reshaped left scales at row `b * 1536 + s`. -/
theorem scales_row (a1 : Vec Ideal S12x1536x320 .fp8e4m3) (b : Fin 12) (s : Fin 1536) (q : Fin 320) :
    shapeCast S18432x320 a1 shapeCasts_S12x1536x320_S18432x320 (ix2 ⟨b.val * 1536 + s.val, by omega⟩ q) = a1 (ix3 b s q) := by
  pointwise

/-- The reshaped result at an index: row `b * 1536 + s` of the array before the reshape. -/
theorem unflatten_apply (p : Vec Ideal S18432x3456 .bf16) (b : Fin 12) (s : Fin 1536) (n : Fin 3456) :
    shapeCast S12x1536x3456 p shapeCasts_S18432x3456_S12x1536x3456 (ix3 b s n) = p (ix2 ⟨b.val * 1536 + s.val, by omega⟩ n) := by
  pointwise

/-- A sum over the contracted axis is a sum over the low columns and a sum over the high columns. -/
theorem sum_halves (f : Fin 5120 → EReal) :
    ∑ k, f k = ∑ k : Fin 2560, f ⟨k.val, by omega⟩ + ∑ k : Fin 2560, f ⟨2560 + k.val, by omega⟩ :=
  Fin.sum_univ_add (a := 2560) (b := 2560) f

/-- The program's result at an index. -/
theorem result_apply (a0 : Vec Ideal S12x1536x2560 .i8) (a1 : Vec Ideal S12x1536x320 .fp8e4m3) (a2 : Vec Ideal S2 .f32)
    (a3 : Vec Ideal S2560x3456 .i8) (a4 : Vec Ideal S320x3456 .fp8e4m3) (a5 : Vec Ideal S1 .f32) (b : Fin 12) (s : Fin 1536) (n : Fin 3456) :
    result a0 a1 a2 a3 a4 a5 (ix3 b s n)
      = (∑ k : Fin 2560, (lowV (a0 (ix3 b s k)) * a1 (ix3 b s ⟨k.val / 8, by omega⟩))
              * (lowV (a3 (ix2 k n)) * (a4 (ix2 ⟨k.val / 8, by omega⟩ n) * boost))
          + ∑ k : Fin 2560, (highV (a0 (ix3 b s k)) * a1 (ix3 b s ⟨k.val / 8, by omega⟩))
              * (highV (a3 (ix2 k n)) * (a4 (ix2 ⟨k.val / 8, by omega⟩ n) * boost)))
        * a2 (ix1 ⟨s.val / 768, by omega⟩) * a5 (ix1 0) := by
  unfold result
  rw [unflatten_apply]
  show productAt _ _ _ _ _ ⟨b.val * 1536 + s.val, _⟩ n = _
  unfold productAt
  have hg : (b.val * 1536 + s.val) / 768 % 2 = s.val / 768 := by omega
  rw [sum_halves]
  simp only [hg, unpackedAt_low, unpackedAt_high]
  refine congrArg₂ (· * ·) (congrArg₂ (· * ·) (congrArg₂ (· + ·) ?_ ?_) rfl) rfl
  · exact Finset.sum_congr rfl fun k _ => congrArg₂ (· * ·)
      (congrArg₂ (· * ·) (congrArg lowV (codes_row a0 b s k)) (scales_row a1 b s ⟨k.val / 8, by omega⟩)) (right_low a3 a4 k n)
  · exact Finset.sum_congr rfl fun k _ => congrArg₂ (· * ·)
      (congrArg₂ (· * ·) (congrArg highV (codes_row a0 b s k)) (scales_row a1 b s ⟨k.val / 8, by omega⟩)) (right_high a3 a4 k n)

end Cert.Proof

end
-- ==== Proof.Reference.lean ====
/- The reference's result at an index: a sum over the low codes and a sum over the high codes, times the two scales. -/
module

public import proofs.«01_k».proof.Proof.Decode
public import proofs.«01_k».proof.Proof.Gen.ReferenceIdeal.Value
public import Idealize.ShloMosaic.Lib.Pipeline.ValueKit

@[expose] public section

set_option maxRecDepth 16384

noncomputable section

namespace Cert.Proof

open Idealize.ShloMosaic Idealize.ShloMosaic.TcCoe Cert.ReferenceIdeal Cert.ReferenceIdeal.Gen Cert.ReferenceIdeal.Value

/-- The reference's constant 6. -/
theorem bf16_six : Ideal.ofBits .bf16 0x40C0#16 = ((6 : ℝ) : EReal) := by
  simp [Ideal.ofBits, Ideal.ieee, -EReal.coe_mul] <;> norm_num
/-- The reference's constant 4. -/
theorem bf16_four : Ideal.ofBits .bf16 0x4080#16 = ((4 : ℝ) : EReal) := by
  simp [Ideal.ofBits, Ideal.ieee, -EReal.coe_mul] <;> norm_num
/-- The reference's constant 3. -/
theorem bf16_three : Ideal.ofBits .bf16 0x4040#16 = ((3 : ℝ) : EReal) := by
  simp [Ideal.ofBits, Ideal.ieee, -EReal.coe_mul] <;> norm_num
/-- The reference's constant 2. -/
theorem bf16_two : Ideal.ofBits .bf16 0x4000#16 = ((2 : ℝ) : EReal) := by
  simp [Ideal.ofBits, Ideal.ieee, -EReal.coe_mul] <;> norm_num
/-- The reference's constant 3/2. -/
theorem bf16_threehalves : Ideal.ofBits .bf16 0x3FC0#16 = ((3 / 2 : ℝ) : EReal) := by
  simp [Ideal.ofBits, Ideal.ieee, -EReal.coe_mul] <;> norm_num
/-- The reference's constant 1/2. -/
theorem bf16_half : Ideal.ofBits .bf16 0x3F00#16 = ((1 / 2 : ℝ) : EReal) := by
  simp [Ideal.ofBits, Ideal.ieee, -EReal.coe_mul] <;> norm_num

/-- The reference's choice among its constants, by four conditions. -/
def table (c0 c1 c2 c3 : BitVec 1) : EReal :=
  let v : EReal := Scalar.select c2
    (Scalar.select c1 (Scalar.select c0 (Ideal.ofBits .bf16 0x40C0#16) (Ideal.ofBits .bf16 0x4080#16))
      (Scalar.select c0 (Ideal.ofBits .bf16 0x4040#16) (Ideal.ofBits .bf16 0x4000#16)))
    (Scalar.select c1 (Scalar.select c0 (Ideal.ofBits .bf16 0x3FC0#16) 1) (Scalar.select c0 (Ideal.ofBits .bf16 0x3F00#16) 0))
  Scalar.select c3 (0 - v) v

/-- A selection by a condition is an `if`. -/
theorem select_ofBool (b : Bool) (x y : EReal) : Scalar.select (BitVec.ofBool b) x y = if b then x else y := by
  cases b <;> rfl

/-- That choice is the code's number. -/
theorem table_eq (b0 b1 b2 b3 : Bool) :
    table (BitVec.ofBool b0) (BitVec.ofBool b1) (BitVec.ofBool b2) (BitVec.ofBool b3) = ((code b0 b1 b2 b3 : ℝ) : EReal) := by
  unfold table code
  rw [bf16_six, bf16_four, bf16_three, bf16_two, bf16_threehalves, bf16_half, ← EReal.coe_one, ← EReal.coe_zero]
  simp only [select_ofBool]
  cases b0 <;> cases b1 <;> cases b2 <;> cases b3 <;>
    (simp only [if_true, if_false, Bool.false_eq_true, ← EReal.coe_sub] <;> norm_num)

/-- A condition of the reference on a low code: is the bit that the mask picks set? -/
def lowBit (b : BitVec 8) (mask : BitVec 32) : BitVec 1 :=
  IntOp.cmpi .ne (IntOp.andi (IntOp.andi (BitVec.setWidth 32 b) 15#32) mask) 0#32

/-- The four conditions on a low code are bits 0 to 3 of its byte. -/
theorem lowBit_eq : ∀ b : BitVec 8, lowBit b 1#32 = BitVec.ofBool (b.getLsbD 0) ∧ lowBit b 2#32 = BitVec.ofBool (b.getLsbD 1)
    ∧ lowBit b 4#32 = BitVec.ofBool (b.getLsbD 2) ∧ lowBit b 8#32 = BitVec.ofBool (b.getLsbD 3) := by
  decide +kernel

/-- A condition of the reference on a high code. -/
def highBit (b : BitVec 8) (mask : BitVec 32) : BitVec 1 :=
  IntOp.cmpi .ne (IntOp.andi (IntOp.shrsi .vector (BitVec.setWidth 32 b) 4#32) mask) 0#32

/-- The four conditions on a high code are bits 4 to 7 of its byte. -/
theorem highBit_eq : ∀ b : BitVec 8, highBit b 1#32 = BitVec.ofBool (b.getLsbD 4) ∧ highBit b 2#32 = BitVec.ofBool (b.getLsbD 5)
    ∧ highBit b 4#32 = BitVec.ofBool (b.getLsbD 6) ∧ highBit b 8#32 = BitVec.ofBool (b.getLsbD 7) := by
  decide +kernel

/-- What the low code of a byte is worth. -/
def lowN (b : BitVec 8) : EReal := ((code (b.getLsbD 0) (b.getLsbD 1) (b.getLsbD 2) (b.getLsbD 3) : ℝ) : EReal)

/-- What the high code of a byte is worth. -/
def highN (b : BitVec 8) : EReal := ((code (b.getLsbD 4) (b.getLsbD 5) (b.getLsbD 6) (b.getLsbD 7) : ℝ) : EReal)

/-- The reference's decoding of a low code. -/
theorem table_low (b : BitVec 8) : table (lowBit b 1#32) (lowBit b 2#32) (lowBit b 4#32) (lowBit b 8#32) = lowN b := by
  obtain ⟨h0, h1, h2, h3⟩ := lowBit_eq b
  rw [h0, h1, h2, h3, table_eq, lowN]

/-- The reference's decoding of a high code. -/
theorem table_high (b : BitVec 8) : table (highBit b 1#32) (highBit b 2#32) (highBit b 4#32) (highBit b 8#32) = highN b := by
  obtain ⟨h0, h1, h2, h3⟩ := highBit_eq b
  rw [h0, h1, h2, h3, table_eq, highN]

/-- The left operand's low half, decoded and scaled, at an index. -/
theorem leftLow_apply (a0 : Vec Ideal S12x1536x2560 .i8) (a1 : Vec Ideal S12x1536x320 .fp8e4m3) (b : Fin 12) (s : Fin 1536) (k : Fin 2560) :
    k0_pay11 (k0_pay4 (F := Ideal) a1) (k0_pay6 (F := Ideal) a0) (k0_pay7 (F := Ideal) a0) (k0_pay8 (F := Ideal) a0)
      (k0_pay9 (F := Ideal) a0) (k0_pay10 (F := Ideal) a0) (ix3 b s k) = lowN (a0 (ix3 b s k)) * a1 (ix3 b s ⟨k.val / 8, by omega⟩) := by
  rw [← table_low]
  unfold k0_pay11 k0_pay4 k0_pay6 k0_pay7 k0_pay8 k0_pay9 k0_pay10 k0_pay6 k0_pay7 k0_pay5 k0_pay2
  pointwise
  rfl

/-- The left operand's high half at an index. -/
theorem leftHigh_apply (a0 : Vec Ideal S12x1536x2560 .i8) (a1 : Vec Ideal S12x1536x320 .fp8e4m3) (b : Fin 12) (s : Fin 1536) (k : Fin 2560) :
    k0_pay18 (k0_pay4 (F := Ideal) a1) (k0_pay13 (k0_pay2 (F := Ideal) a0)) (k0_pay14 (k0_pay2 (F := Ideal) a0))
      (k0_pay15 (k0_pay2 (F := Ideal) a0)) (k0_pay16 (k0_pay2 (F := Ideal) a0)) (k0_pay17 (F := Ideal) (k0_pay2 (F := Ideal) a0))
      (Scalar.ofBits .bf16 0x3FC0#16) (Scalar.ofBits .bf16 0x3F80#16) (ix3 b s k)
        = highN (a0 (ix3 b s k)) * a1 (ix3 b s ⟨k.val / 8, by omega⟩) := by
  rw [← table_high]
  unfold k0_pay18 k0_pay4 k0_pay17 k0_pay16 k0_pay15 k0_pay14 k0_pay13 k0_pay12 k0_pay2
  pointwise
  rfl

/-- The right operand's low half at an index. -/
theorem rightLow_apply (a3 : Vec Ideal S2560x3456 .i8) (a4 : Vec Ideal S320x3456 .fp8e4m3) (k : Fin 2560) (n : Fin 3456) :
    k0_pay26 (k0_pay19 (F := Ideal) a4) (k0_pay21 (k0_pay3 (F := Ideal) a3)) (k0_pay22 (k0_pay3 (F := Ideal) a3))
      (k0_pay23 (k0_pay3 (F := Ideal) a3)) (k0_pay24 (k0_pay3 (F := Ideal) a3)) (k0_pay25 (F := Ideal) (k0_pay3 (F := Ideal) a3))
      (Scalar.ofBits .bf16 0x3FC0#16) (Scalar.ofBits .bf16 0x3F80#16) (ix2 k n)
        = lowN (a3 (ix2 k n)) * a4 (ix2 ⟨k.val / 8, by omega⟩ n) := by
  rw [← table_low]
  unfold k0_pay26 k0_pay19 k0_pay25 k0_pay24 k0_pay23 k0_pay22 k0_pay21 k0_pay20 k0_pay3
  pointwise
  rfl

/-- The right operand's high half: its decoding and scaling, the part the last payload computes. -/
def rightHigh (a3 : Vec Ideal S2560x3456 .i8) (a4 : Vec Ideal S320x3456 .fp8e4m3) : FVec Ideal S2560x3456 .bf16 := fun y =>
  highN (a3 y) * a4 (ix2 ⟨(y 0).val / 8, by have : (y 0).val < 2560 := (y 0).isLt; omega⟩ (y 1))

/-- The last payload at an index, over any left operand and any low half of the right one. -/
theorem last_apply (a2 : Vec Ideal S2 .f32) (a5 : Vec Ideal S1 .f32) (xl xh : FVec Ideal S12x1536x2560 .bf16) (wl : FVec Ideal S2560x3456 .bf16)
    (a3 : Vec Ideal S2560x3456 .i8) (a4 : Vec Ideal S320x3456 .fp8e4m3) (b : Fin 12) (s : Fin 1536) (n : Fin 3456) :
    k0_pay1 a2 a5 xl xh (k0_pay19 (F := Ideal) a4) wl (k0_pay28 (k0_pay3 (F := Ideal) a3)) (k0_pay29 (k0_pay3 (F := Ideal) a3))
      (k0_pay30 (k0_pay3 (F := Ideal) a3)) (k0_pay31 (k0_pay3 (F := Ideal) a3)) (k0_pay32 (F := Ideal) (k0_pay3 (F := Ideal) a3))
      (k0_pay33 (F := Ideal)) (k0_pay34 (F := Ideal)) (ix3 b s n)
        = (∑ k : Fin 2560, xl (ix3 b s k) * wl (ix2 k n)
            + ∑ k : Fin 2560, xh (ix3 b s k) * (highN (a3 (ix2 k n)) * a4 (ix2 ⟨k.val / 8, by omega⟩ n)))
          * a2 (ix1 ⟨s.val / 768, by omega⟩) * a5 (ix1 0) := by
  simp only [← table_high]
  unfold k0_pay1 k0_pay19 k0_pay34 k0_pay33 k0_pay32 k0_pay31 k0_pay30 k0_pay29 k0_pay28 k0_pay27 k0_pay3
  pointwise
  rfl

/-- The reference's result at an index. -/
theorem reference_apply (a0 : Vec Ideal S12x1536x2560 .i8) (a1 : Vec Ideal S12x1536x320 .fp8e4m3) (a2 : Vec Ideal S2 .f32)
    (a3 : Vec Ideal S2560x3456 .i8) (a4 : Vec Ideal S320x3456 .fp8e4m3) (a5 : Vec Ideal S1 .f32) (b : Fin 12) (s : Fin 1536) (n : Fin 3456) :
    G6 (F := Ideal) a0 a1 a2 a3 a4 a5 (ix3 b s n)
      = (∑ k : Fin 2560, (lowN (a0 (ix3 b s k)) * a1 (ix3 b s ⟨k.val / 8, by omega⟩))
              * (lowN (a3 (ix2 k n)) * a4 (ix2 ⟨k.val / 8, by omega⟩ n))
          + ∑ k : Fin 2560, (highN (a0 (ix3 b s k)) * a1 (ix3 b s ⟨k.val / 8, by omega⟩))
              * (highN (a3 (ix2 k n)) * a4 (ix2 ⟨k.val / 8, by omega⟩ n)))
        * a2 (ix1 ⟨s.val / 768, by omega⟩) * a5 (ix1 0) := by
  unfold G6 k0_pay35 k0_pay36 k0_pay37 k0_pay38
  rw [View.ld_unit_zero (S := S12x1536x2560) hz0 _ a0, View.ld_unit_zero (S := S12x1536x320) hz1 _ a1,
    View.ld_unit_zero (S := S2560x3456) hz3 _ a3, View.ld_unit_zero (S := S320x3456) hz4 _ a4, last_apply]
  simp only [leftLow_apply, leftHigh_apply, rightLow_apply]

end Cert.Proof

end
-- ==== Proof.Equation.lean ====
/- The two results agree: the kernel decodes a code to its number over 64, on both operands, and multiplies the right
   operand's scales by 4096, which is 64 times 64. -/
module

public import proofs.«01_k».proof.Proof.Result
public import proofs.«01_k».proof.Proof.Reference

@[expose] public section

set_option maxRecDepth 16384

noncomputable section

namespace Cert.Proof

open Idealize.ShloMosaic Idealize.ShloMosaic.TcCoe

/-- The kernel's constant is 4096. -/
theorem boost_eq : boost = ((4096 : ℝ) : EReal) := by
  unfold boost
  simp [Ideal.ofBits, Ideal.ieee, -EReal.coe_mul] <;> norm_num

/-- One term of the contraction: two numbers over 64, their scales, and the constant, for any extended-real scales. -/
theorem term_eq (x w : ℝ) (sx sw : EReal) :
    (((x / 64 : ℝ) : EReal) * sx) * (((w / 64 : ℝ) : EReal) * (sw * boost)) = ((x : EReal) * sx) * ((w : EReal) * sw) := by
  have h : ((x / 64 : ℝ) : EReal) * (((w / 64 : ℝ) : EReal) * ((4096 : ℝ) : EReal)) = (x : EReal) * (w : EReal) := by
    rw [← EReal.coe_mul, ← EReal.coe_mul, ← EReal.coe_mul]
    congr 1
    ring
  calc _ = ((x / 64 : ℝ) : EReal) * (((w / 64 : ℝ) : EReal) * ((4096 : ℝ) : EReal)) * (sx * sw) := by rw [boost_eq]; ac_rfl
    _ = (x : EReal) * (w : EReal) * (sx * sw) := by rw [h]
    _ = _ := by ac_rfl

/-- The kernel program's result is the reference's. -/
theorem result_eq_reference (a0 : Vec Ideal Cert.KernelIdeal.S12x1536x2560 .i8) (a1 : Vec Ideal Cert.KernelIdeal.S12x1536x320 .fp8e4m3)
    (a2 : Vec Ideal Cert.KernelIdeal.S2 .f32) (a3 : Vec Ideal Cert.KernelIdeal.S2560x3456 .i8)
    (a4 : Vec Ideal Cert.KernelIdeal.S320x3456 .fp8e4m3) (a5 : Vec Ideal Cert.KernelIdeal.S1 .f32) :
    result a0 a1 a2 a3 a4 a5 = Cert.ReferenceIdeal.Value.G6 (F := Ideal) a0 a1 a2 a3 a4 a5 := by
  funext y
  obtain ⟨b, s, n, rfl⟩ : ∃ (b : Fin 12) (s : Fin 1536) (n : Fin 3456), y = ix3 b s n := ⟨y 0, y 1, y 2, eq_ix3 y⟩
  refine (result_apply a0 a1 a2 a3 a4 a5 b s n).trans (Eq.trans ?_ (reference_apply a0 a1 a2 a3 a4 a5 b s n).symm)
  unfold lowV highV lowN highN
  simp only [term_eq]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel program and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · refine (θ_run _ _ _).mono ?_ (Cert.KernelIdeal.Run.run m g)
    rintro r ⟨hr, -⟩ c
    exact ⟨(hr c).1.trans (result_eq m g c), (hr c).2⟩
  · refine (θ_run _ _ _).mono ?_ (Cert.ReferenceIdeal.Value.run m' g')
    intro r hr c
    refine ⟨(hr c).1.trans ?_, (hr c).2⟩
    obtain ⟨h0, h1, h2, h3, h4, h5⟩ := hargs c
    refine Eq.trans ?_ (result_eq_reference _ _ _ _ _ _).symm
    exact congr (congr (congr (congr (congr (congrArg Cert.ReferenceIdeal.Value.G6 h0) h1) h2) h3) h4) h5

theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, fun m g _ => Cert.ReferenceIdeal.Gen.frame m g, trivial, algebraic⟩

end Cert.Proof

end
